-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x576x256 : Shape := ⟨3, ![64, 576, 256]⟩
abbrev S1024x256 : Shape := ⟨2, ![1024, 256]⟩
abbrev S64x1024 : Shape := ⟨2, ![64, 1024]⟩
abbrev S8x576x256 : Shape := ⟨3, ![8, 576, 256]⟩
abbrev S8x1024 : Shape := ⟨2, ![8, 1024]⟩
abbrev S256x1024 : Shape := ⟨2, ![256, 1024]⟩
abbrev S1024 : Shape := ⟨1, ![1024]⟩
abbrev S1x1024 : Shape := ⟨2, ![1, 1024]⟩
abbrev S1x576x256 : Shape := ⟨3, ![1, 576, 256]⟩
abbrev S576x256 : Shape := ⟨2, ![576, 256]⟩
abbrev S576x1024 : Shape := ⟨2, ![576, 1024]⟩

abbrev nBuf : Space → Nat
  | .hbm => 4
  | .vmem => 8
  | .smem => 0
  | _ => 0

abbrev bufTy : (tb : Table) → Fin (tcTables nBuf tb) → BufTy
  | .hbm, ⟨0, _⟩ => ⟨S64x576x256, .f32⟩
  | .hbm, ⟨1, _⟩ => ⟨S1024x256, .f32⟩
  | .hbm, ⟨2, _⟩ => ⟨S64x1024, .f32⟩
  | .hbm, ⟨3, _⟩ => ⟨S64x1024, .i32⟩
  | .local _ .vmem, ⟨0, _⟩ => ⟨S8x576x256, .f32⟩
  | .local _ .vmem, ⟨1, _⟩ => ⟨S8x576x256, .f32⟩
  | .local _ .vmem, ⟨2, _⟩ => ⟨S1024x256, .f32⟩
  | .local _ .vmem, ⟨3, _⟩ => ⟨S8x1024, .f32⟩
  | .local _ .vmem, ⟨4, _⟩ => ⟨S8x1024, .f32⟩
  | .local _ .vmem, ⟨5, _⟩ => ⟨S8x1024, .i32⟩
  | .local _ .vmem, ⟨6, _⟩ => ⟨S8x1024, .i32⟩
  | .local _ .vmem, ⟨7, _⟩ => ⟨S256x1024, .f32⟩
  | _, _ => ⟨S64x576x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x576x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S64x576x256 : Shape := ⟨3, ![64, 576, 256]⟩
abbrev S1024x256 : Shape := ⟨2, ![1024, 256]⟩
abbrev S_ : Shape := ⟨0, ![]⟩
abbrev S1024 : Shape := ⟨1, ![1024]⟩
abbrev S1024x1 : Shape := ⟨2, ![1024, 1]⟩
abbrev S256x1024 : Shape := ⟨2, ![256, 1024]⟩
abbrev S64x576x1024 : Shape := ⟨3, ![64, 576, 1024]⟩
abbrev S64x1024x576 : Shape := ⟨3, ![64, 1024, 576]⟩
abbrev S64x1024x1 : Shape := ⟨3, ![64, 1024, 1]⟩
abbrev S64x1024 : Shape := ⟨2, ![64, 1024]⟩

abbrev nBuf : Space → Nat
  | .hbm => 24
  | .vmem => 0
  | .smem => 0
  | _ => 0

abbrev bufTy : (tb : Table) → Fin (tcTables nBuf tb) → BufTy
  | .hbm, ⟨0, _⟩ => ⟨S64x576x256, .f32⟩
  | .hbm, ⟨1, _⟩ => ⟨S1024x256, .f32⟩
  | .hbm, ⟨2, _⟩ => ⟨S1024x256, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S1024x1, .f32⟩
  | .hbm, ⟨7, _⟩ => ⟨S_, .f32⟩
  | .hbm, ⟨8, _⟩ => ⟨S1024x1, .f32⟩
  | .hbm, ⟨9, _⟩ => ⟨S1024x1, .f32⟩
  | .hbm, ⟨10, _⟩ => ⟨S1024x256, .f32⟩
  | .hbm, ⟨11, _⟩ => ⟨S1024x256, .f32⟩
  | .hbm, ⟨12, _⟩ => ⟨S256x1024, .f32⟩
  | .hbm, ⟨13, _⟩ => ⟨S64x576x1024, .f32⟩
  | .hbm, ⟨14, _⟩ => ⟨S_, .f32⟩
  | .hbm, ⟨15, _⟩ => ⟨S64x576x1024, .f32⟩
  | .hbm, ⟨16, _⟩ => ⟨S64x576x1024, .f32⟩
  | .hbm, ⟨17, _⟩ => ⟨S64x576x1024, .f32⟩
  | .hbm, ⟨18, _⟩ => ⟨S64x1024x576, .f32⟩
  | .hbm, ⟨19, _⟩ => ⟨S64x1024x1, .f32⟩
  | .hbm, ⟨20, _⟩ => ⟨S64x1024x1, .i32⟩
  | .hbm, ⟨21, _⟩ => ⟨S64x1024, .f32⟩
  | .hbm, ⟨22, _⟩ => ⟨S64x1024, .f32⟩
  | .hbm, ⟨23, _⟩ => ⟨S64x1024, .i32⟩
  | _, _ => ⟨S64x576x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_values : Ref sig .tc := ⟨.hbm, 19, rfl⟩
abbrev main_indices : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]
-- ==== Proof.Scan.lean ====
/- The kernel's pass over one batch element, in its own words: the table of products, the running
   maximum and its position over the 72 groups of eight rows, and the row of each result. -/
module

public import proofs.«01_k».proof.Proof.Gen.KernelIdeal.Skeleton

@[expose] public section

noncomputable section

namespace Cert.KernelIdeal.Hand

open Idealize.ShloMosaic Idealize.ShloMosaic.TcCoe Cert.KernelIdeal Cert.KernelIdeal.Gen

variable {F : FTy → Type} [FloatOps F]

/-- Every group of eight rows lies inside the table. -/
theorem slices_group (k : ℕ) (h : k < 72) : S576x1024.Slices ![8 * k, 0] S8x1024 :=
  ⟨rfl, fun a => by
    match a with
    | ⟨0, _⟩ => show 8 * k + 8 ≤ 576; omega
    | ⟨1, _⟩ => exact Nat.le_refl _⟩

/-- Group `k` of the table: its rows `8k, …, 8k+7`. -/
def group (s : FVec F S576x1024 .f32) (k : ℕ) (h : k < 72) : FVec F S8x1024 .f32 :=
  extractStridedSlice S8x1024 ![8 * k, 0] s (slices_group k h)

/-- The running maximum after groups `0, …, k`. -/
def runM (s : FVec F S576x1024 .f32) : (k : ℕ) → k < 72 → FVec F S8x1024 .f32
  | 0, h => group s 0 h
  | k + 1, h =>
    select (cmpf .ogt (group s (k + 1) h) (runM s k (Nat.lt_of_succ_lt h))) (group s (k + 1) h)
      (runM s k (Nat.lt_of_succ_lt h))

/-- The row at which the running maximum was taken, after groups `0, …, k`. -/
def runI (s : FVec F S576x1024 .f32) : (k : ℕ) → k < 72 → IVec S8x1024 32
  | 0, _ => iota .tc S8x1024 32 [0] iota_S8x1024_d0_w32
  | k + 1, h =>
    select (cmpf .ogt (group s (k + 1) h) (runM s k (Nat.lt_of_succ_lt h)))
      (addi (iota .tc S8x1024 32 [0] iota_S8x1024_d0_w32) (broadcast S8x1024 (BitVec.ofNat 32 (8 * (k + 1)))))
      (runI s k (Nat.lt_of_succ_lt h))

/-- The greatest entry of each column. -/
def top (s : FVec F S576x1024 .f32) : FVec F S1x1024 .f32 :=
  shapeCast S1x1024 (multiReduction .maximumf [0] S1024 (runM s 71 (by decide)) 0xFF800000#32 reduces_S8x1024_S1024 (.inl rfl) rfl)
    shapeCasts_S1024_S1x1024

/-- The row of the first result: one less each column's greatest entry. -/
def distRow (s : FVec F S576x1024 .f32) : FVec F S1x1024 .f32 :=
  subf (broadcast S1x1024 (Scalar.ofBits .f32 0x3F800000#32)) (top s)

/-- The row of the second result: the least kept position among those whose running maximum is the greatest entry. -/
def indexRow (s : FVec F S576x1024 .f32) : IVec S1x1024 32 :=
  shapeCast S1x1024
    (multiReductionI .minsi [0] S1024
      (select (cmpf .oeq (runM s 71 (by decide)) (broadcastTo S8x1024 (top s) broadcasts_S1x1024_S8x1024))
        (runI s 71 (by decide)) (broadcast S8x1024 576#32))
      2147483647#32 reduces_S8x1024_S1024 rfl)
    shapeCasts_S1024_S1x1024

/-- The table of products of one batch element with the normalised prototypes. -/
def table (v : Vec F S1x576x256 .f32) (p : Vec F S256x1024 .f32) : FVec F S576x1024 .f32 :=
  matmul dot_S576x256_S256x1024_S576x1024_1_0_0_1_n_n none (shapeCast S576x256 v shapeCasts_S1x576x256_S576x256) p
    (constant S576x1024 .f32 0x00000000#32)

end Cert.KernelIdeal.Hand

end
-- ==== Proof.Block.lean ====
/- What one grid point stores: row `j` of each output block is the kernel's pass over batch element
   `j` of the input block, against whatever the scratch holds. -/
module

public import proofs.«01_k».proof.Proof.Gen.KernelIdeal.Frame
public import proofs.«01_k».proof.Proof.Scan
public import Idealize.ShloMosaic.Lib.Pipeline.Value
public import Idealize.ShloMosaic.Lib.ValueIdx

@[expose] public section

set_option maxRecDepth 65536

noncomputable section

namespace Cert.KernelIdeal.Hand

open Idealize.ShloMosaic Idealize.ShloMosaic.TcCoe Idealize.ShloMosaic.Tactic
open Idealize.ShloMosaic.ValueIdx
open Cert.KernelIdeal Cert.KernelIdeal.Gen

variable {F : FTy → Type} [FloatOps F]

/-- Row `j` of an output block lies inside the block. -/
theorem row_inside (j : Fin 8) : ∀ a, (![j.val, 0] : Fin 2 → ℕ) a + S1x1024.size a ≤ S8x1024.size a := fun a => by
  match a with
  | ⟨0, _⟩ => show j.val + 1 ≤ 8; omega
  | ⟨1, _⟩ => exact Nat.le_refl _

/-- Batch element `j` of an input block lies inside the block. -/
theorem element_inside (j : Fin 8) : ∀ a, (![j.val, 0, 0] : Fin 3 → ℕ) a + S1x576x256.size a ≤ S8x576x256.size a := fun a => by
  match a with
  | ⟨0, _⟩ => show j.val + 1 ≤ 8; omega
  | ⟨1, _⟩ => exact Nat.le_refl _
  | ⟨2, _⟩ => exact Nat.le_refl _

/-- Row `j` of an output block. -/
abbrev rowRect (j : Fin 8) : Rect S8x1024 := Rect.unit (s := S8x1024) ![j.val, 0] S1x1024.size (row_inside j)

/-- Batch element `j` of an input block. -/
abbrev elementRect (j : Fin 8) : Rect S8x576x256 :=
  Rect.unit (s := S8x576x256) ![j.val, 0, 0] S1x576x256.size (element_inside j)

/-- Eight row stores, the last row last, of the rows `w`. -/
def rowStores {e : EltTy} (w : Fin 8 → S1x1024.Idx → Elt F e) : List (View.Piece (Elt F) S8x1024 e) :=
  List.ofFn fun k : Fin 8 => ⟨rowRect k.rev, w k.rev⟩

/-- Eight row stores leave row `j` at `w j`. -/
theorem canon_rowStores {e : EltTy} (w : Fin 8 → S1x1024.Idx → Elt F e) (y : S8x1024.Idx)
    (h : ∃ p ∈ rowStores w, y ∈ p.1.set) : View.canon (rowStores w) y = w (y 0) (ix2 0 (y 1)) := by
  refine View.canon_apply_of_pieces (fun y => w (y 0) (ix2 0 (y 1))) (rowStores w) ?_ y h
  intro p hp x
  obtain ⟨k, rfl⟩ := (List.mem_ofFn).mp hp
  have h0 : ((rowRect k.rev).emb x) 0 = k.rev := by
    apply Fin.ext
    show k.rev.val + 1 * (x 0).val = k.rev.val
    have : (x 0).val < 1 := (x 0).isLt
    omega
  have h1 : (ix2 0 (((rowRect k.rev).emb x) 1) : S1x1024.Idx) = x := by
    funext a
    match a with
    | ⟨0, _⟩ => exact Subsingleton.elim (α := Fin 1) _ _
    | ⟨1, _⟩ => apply Fin.ext; show 0 + 1 * (x 1).val = (x 1).val; omega
  show w k.rev x = w _ _
  rw [h0, h1]

section Runs

variable (c : Dev nD) (i : grid0.Coords) (arg1 : Memref sig .tc .vmem S8x576x256 .f32) (harg1 : arg1.IsWhole)
  (arg2 : Memref sig .tc .vmem S1024x256 .f32) (harg2 : arg2.IsWhole) (arg3 : Memref sig .tc .vmem S8x1024 .f32)
  (harg3 : arg3.IsWhole) (arg4 : Memref sig .tc .vmem S8x1024 .i32) (harg4 : arg4.IsWhole)
  (arg5 : Memref sig .tc .vmem S256x1024 .f32) (harg5 : arg5.IsWhole)
  (x0 : Vec F S8x576x256 .f32) (x1 : Vec F S1024x256 .f32) (xs0 : Vec F S256x1024 .f32)

/-- Batch element `j` of an input block. -/
def element (x0 : Vec F S8x576x256 .f32) (j : Fin 8) : Vec F S1x576x256 .f32 := fun z => x0 (ix3 j (z 1) (z 2))

/-- Batch element `j` as the body loads it. -/
abbrev loaded (j : Fin 8) : Vec F S1x576x256 .f32 :=
  View.readAt (Elt F) arg1.view (elementRect j).toLoadRect (harg1.unread x0)

/-- The scratch as a later point loads it. -/
abbrev kept : Vec F S256x1024 .f32 :=
  View.readAt (Elt F) arg5.view
    (Rect.unit (s := S256x1024) ![0, 0] S256x1024.size inb_S256x1024_S256x1024_0_0).toLoadRect (harg5.unread xs0)

/-- The prototypes as the first point loads them. -/
abbrev prototypes : Vec F S1024x256 .f32 :=
  View.readAt (Elt F) arg2.view
    (Rect.unit (s := S1024x256) ![0, 0] S1024x256.size inb_S1024x256_S1024x256_0_0).toLoadRect (harg2.unread x1)

/-- The first point's one store into the scratch. -/
abbrev fillStores : List (View.Piece (Elt F) S256x1024 .f32) :=
  [⟨Rect.unit (s := S256x1024) ![0, 0] S256x1024.size inb_S256x1024_S256x1024_0_0, k0_pay1 (prototypes arg2 harg2 x1)⟩]

/-- The scratch as the first point loads it, after its own store. -/
abbrev filled : Vec F S256x1024 .f32 :=
  arg5.view.readCov (fillStores arg2 harg2 x1)
    (Rect.unit (s := S256x1024) ![0, 0] S256x1024.size inb_S256x1024_S256x1024_0_0).toLoadRect

/-- What the body loads for batch element `j` is that element of the input block. -/
theorem loaded_eq (j : Fin 8) : loaded arg1 harg1 x0 j = element x0 j := by
  unfold loaded
  rw [View.readAt_eq_ld, harg1.read_unread]
  funext z
  refine congrArg x0 (funext fun a => Fin.ext ?_)
  match a with
  | ⟨0, _⟩ =>
    show j.val + 1 * (z 0).val = j.val
    have : (z 0).val < 1 := (z 0).isLt
    omega
  | ⟨1, _⟩ => show 0 + 1 * (z 1).val = (z 1).val; omega
  | ⟨2, _⟩ => show 0 + 1 * (z 2).val = (z 2).val; omega

/-- The two spellings of the zero offset. -/
theorem zero2 : (![0, 0] : Fin 2 → ℕ) = fun _ => 0 := by
  funext a
  match a with
  | ⟨0, _⟩ => rfl
  | ⟨1, _⟩ => rfl

/-- A whole-buffer load of the scratch gives its contents. -/
theorem kept_eq : kept arg5 harg5 xs0 = xs0 := by
  unfold kept
  rw [View.readAt_eq_ld, harg5.read_unread, View.ld_unit_zero zero2]

/-- A whole-buffer load of the prototypes gives their block. -/
theorem prototypes_eq : prototypes arg2 harg2 x1 = x1 := by
  unfold prototypes
  rw [View.readAt_eq_ld, harg2.read_unread, View.ld_unit_zero zero2]

/-- What the first point reads back from the scratch is what it stored there. -/
theorem filled_eq : filled arg2 harg2 arg5 x1 = k0_pay1 x1 := by
  unfold filled fillStores
  rw [View.readCov_unit_zero arg5.view zero2, prototypes_eq]

/-- A later point's stores into the first output: one pass per batch element. -/
theorem pieces_B_2 (hc0 : ¬cond0_0 i) :
    (kernelRun0_B c i arg1 harg1 arg2 harg2 arg3 harg3 arg4 harg4 arg5 harg5 hc0 x0 x1 xs0).1
      = rowStores (F := F) (e := .f32) fun j => distRow (table (loaded arg1 harg1 x0 j) (kept arg5 harg5 xs0)) := by
  sl_kernel_rfl

/-- A later point's stores into the second output. -/
theorem pieces_B_3 (hc0 : ¬cond0_0 i) :
    (kernelRun0_B c i arg1 harg1 arg2 harg2 arg3 harg3 arg4 harg4 arg5 harg5 hc0 x0 x1 xs0).2.1
      = rowStores (F := F) (e := .i32) fun j => indexRow (table (loaded arg1 harg1 x0 j) (kept arg5 harg5 xs0)) := by
  sl_kernel_rfl

/-- The first point's stores into the first output. -/
theorem pieces_A_2 (hc0 : cond0_0 i) :
    (kernelRun0_A c i arg1 harg1 arg2 harg2 arg3 harg3 arg4 harg4 arg5 harg5 hc0 x0 x1).1
      = rowStores (F := F) (e := .f32) fun j => distRow (table (loaded arg1 harg1 x0 j) (filled arg2 harg2 arg5 x1)) := by
  sl_kernel_rfl

/-- The first point's stores into the second output. -/
theorem pieces_A_3 (hc0 : cond0_0 i) :
    (kernelRun0_A c i arg1 harg1 arg2 harg2 arg3 harg3 arg4 harg4 arg5 harg5 hc0 x0 x1).2.1
      = rowStores (F := F) (e := .i32) fun j => indexRow (table (loaded arg1 harg1 x0 j) (filled arg2 harg2 arg5 x1)) := by
  sl_kernel_rfl

/-- The first point's store into the scratch. -/
theorem pieces_A_0 (hc0 : cond0_0 i) :
    (kernelRun0_A c i arg1 harg1 arg2 harg2 arg3 harg3 arg4 harg4 arg5 harg5 hc0 x0 x1).2.2.1
      = fillStores arg2 harg2 x1 := by
  sl_kernel_rfl

/-- The first output block: row `j` is one less the greatest product of each prototype with batch element `j`. -/
def dists (x0 : Vec F S8x576x256 .f32) (p : Vec F S256x1024 .f32) : Vec F S8x1024 .f32 :=
  fun y => distRow (table (element x0 (y 0)) p) (ix2 0 (y 1))

/-- The second output block: row `j` is where those greatest products are. -/
def indices (x0 : Vec F S8x576x256 .f32) (p : Vec F S256x1024 .f32) : Vec F S8x1024 .i32 :=
  fun y => indexRow (table (element x0 (y 0)) p) (ix2 0 (y 1))

/-- A later point leaves the first output block at the distances against the scratch it found. -/
theorem out_B_2 (hc0 : ¬cond0_0 i) :
    out0_B_2 c i arg1 harg1 arg2 harg2 arg3 harg3 arg4 harg4 arg5 harg5 hc0 x0 x1 xs0 = dists x0 xs0 := by
  funext y
  have hc := cover0_B_2 c i arg1 harg1 arg2 harg2 arg3 harg3 arg4 harg4 arg5 harg5 hc0 x0 x1 xs0
  unfold out0_B_2
  rw [View.read_writes_eq_canon _ _ _ hc]
  rw [pieces_B_2] at hc ⊢
  exact (canon_rowStores _ y (hc y)).trans
    (congrArg₂ (fun a b => distRow (table a b) (ix2 0 (y 1))) (loaded_eq arg1 harg1 x0 (y 0)) (kept_eq arg5 harg5 xs0))

/-- A later point leaves the second output block at the indices against the scratch it found. -/
theorem out_B_3 (hc0 : ¬cond0_0 i) :
    out0_B_3 c i arg1 harg1 arg2 harg2 arg3 harg3 arg4 harg4 arg5 harg5 hc0 x0 x1 xs0 = indices x0 xs0 := by
  funext y
  have hc := cover0_B_3 c i arg1 harg1 arg2 harg2 arg3 harg3 arg4 harg4 arg5 harg5 hc0 x0 x1 xs0
  unfold out0_B_3
  rw [View.read_writes_eq_canon _ _ _ hc]
  rw [pieces_B_3] at hc ⊢
  exact (canon_rowStores _ y (hc y)).trans
    (congrArg₂ (fun a b => indexRow (table a b) (ix2 0 (y 1))) (loaded_eq arg1 harg1 x0 (y 0)) (kept_eq arg5 harg5 xs0))

/-- The first point leaves the first output block at the distances against the scratch it filled. -/
theorem out_A_2 (hc0 : cond0_0 i) :
    out0_A_2 c i arg1 harg1 arg2 harg2 arg3 harg3 arg4 harg4 arg5 harg5 hc0 x0 x1 = dists x0 (k0_pay1 x1) := by
  funext y
  have hc := cover0_A_2 c i arg1 harg1 arg2 harg2 arg3 harg3 arg4 harg4 arg5 harg5 hc0 x0 x1
  unfold out0_A_2
  rw [View.read_writes_eq_canon _ _ _ hc]
  rw [pieces_A_2] at hc ⊢
  exact (canon_rowStores _ y (hc y)).trans
    (congrArg₂ (fun a b => distRow (table a b) (ix2 0 (y 1))) (loaded_eq arg1 harg1 x0 (y 0)) (filled_eq arg2 harg2 arg5 x1))

/-- The first point leaves the second output block at the indices against the scratch it filled. -/
theorem out_A_3 (hc0 : cond0_0 i) :
    out0_A_3 c i arg1 harg1 arg2 harg2 arg3 harg3 arg4 harg4 arg5 harg5 hc0 x0 x1 = indices x0 (k0_pay1 x1) := by
  funext y
  have hc := cover0_A_3 c i arg1 harg1 arg2 harg2 arg3 harg3 arg4 harg4 arg5 harg5 hc0 x0 x1
  unfold out0_A_3
  rw [View.read_writes_eq_canon _ _ _ hc]
  rw [pieces_A_3] at hc ⊢
  exact (canon_rowStores _ y (hc y)).trans
    (congrArg₂ (fun a b => indexRow (table a b) (ix2 0 (y 1))) (loaded_eq arg1 harg1 x0 (y 0)) (filled_eq arg2 harg2 arg5 x1))

/-- The first point leaves the normalised prototypes, transposed, in the scratch. -/
theorem sout_A_0 (hc0 : cond0_0 i) :
    sout0_A_0 c i arg1 harg1 arg2 harg2 arg3 harg3 arg4 harg4 arg5 harg5 hc0 x0 x1 = k0_pay1 x1 := by
  unfold sout0_A_0
  rw [View.read_writes_eq_canon _ _ _ (scover0_A_0 c i arg1 harg1 arg2 harg2 arg3 harg3 arg4 harg4 arg5 harg5 hc0 x0 x1),
    pieces_A_0]
  unfold fillStores
  rw [View.canon_unit_zero zero2, prototypes_eq]

end Runs

end Cert.KernelIdeal.Hand

end
-- ==== Proof.Arrays.lean ====
/- What the two result arrays hold after the whole grid: row `b` comes from batch element `b`. -/
module

public import proofs.«01_k».proof.Proof.Block
public import proofs.«01_k».proof.Proof.Gen.KernelIdeal.Value

@[expose] public section

noncomputable section

namespace Cert.KernelIdeal.Hand

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-! ## Every point of the grid -/

/-- The prototypes' one block is the whole array, at every point. -/
theorem prototypes_block (c : Dev nD) (t : Fin cfg0.N) : iblk m c 1 t = m ((c : Thread nD τ).loc main_arg1) := by
  have hidx : ∀ t : Fin cfg0.N, win0_1.index t (0 : Fin 2) = 0 ∧ win0_1.index t (1 : Fin 2) = 0 :=
    (by decide +kernel : ∀ t : Fin grid0.N, _)
  obtain ⟨h0, h1⟩ := hidx t
  funext z
  unfold iblk
  rw [View.read_apply]
  refine congrArg (m ((c : Thread nD τ).loc main_arg1)) (funext fun a => Fin.ext ?_)
  match a with
  | ⟨0, _⟩ => show win0_1.index t (0 : Fin 2) * 1024 + 1 * (z 0).val = (z 0).val; omega
  | ⟨1, _⟩ => show win0_1.index t (1 : Fin 2) * 256 + 1 * (z 1).val = (z 1).val; omega

/-- Input block `t` is batch elements `8·t` to `8·t + 7`. -/
theorem input_block (c : Dev nD) (t : Fin cfg0.N) (z : S8x576x256.Idx) (b : Fin 64) (hb : b.val = 8 * t.val + (z 0).val) :
    iblk m c 0 t z = m ((c : Thread nD τ).loc main_arg0) (ix3 b (z 1) (z 2)) := by
  have hidx : ∀ t : Fin cfg0.N, win0_0.index t (0 : Fin 3) = t.val ∧ win0_0.index t (1 : Fin 3) = 0
      ∧ win0_0.index t (2 : Fin 3) = 0 :=
    (by decide +kernel : ∀ t : Fin grid0.N, _)
  obtain ⟨h0, h1, h2⟩ := hidx t
  unfold iblk
  rw [View.read_apply]
  refine congrArg (m ((c : Thread nD τ).loc main_arg0)) (funext fun a => Fin.ext ?_)
  match a with
  | ⟨0, _⟩ => show win0_0.index t (0 : Fin 3) * 8 + 1 * (z 0).val = b.val; omega
  | ⟨1, _⟩ => show win0_0.index t (1 : Fin 3) * 576 + 1 * (z 1).val = (z 1).val; omega
  | ⟨2, _⟩ => show win0_0.index t (2 : Fin 3) * 256 + 1 * (z 2).val = (z 2).val; omega

/-- After every point: the two output blocks of that point's input block, and the scratch as the first point filled it. -/
theorem outsAt_eq (c : Dev nD) : ∀ (n : ℕ) (hn : n < cfg0.N),
    outsAt0 m c n hn = (dists (iblk m c 0 ⟨n, hn⟩) (k0_pay1 (m ((c : Thread nD τ).loc main_arg1))),
      indices (iblk m c 0 ⟨n, hn⟩) (k0_pay1 (m ((c : Thread nD τ).loc main_arg1))), k0_pay1 (m ((c : Thread nD τ).loc main_arg1)))
  | 0, hn => by
    rw [outsAt0_A m c ⟨0, hn⟩ (Nat.zero_mod _), out_A_2, out_A_3, sout_A_0, prototypes_block]
  | n + 1, hn => by
    have h8 : n + 1 < 8 := lt_of_lt_of_eq hn N_0
    have hs : (outsAt0 m c ((⟨n + 1, hn⟩ : Fin cfg0.N).val - 1) (Nat.lt_of_le_of_lt (Nat.sub_le _ _) hn)).2.2
        = k0_pay1 (m ((c : Thread nD τ).loc main_arg1)) :=
      congrArg (fun p => p.2.2) (outsAt_eq c n (Nat.lt_of_succ_lt hn))
    rw [outsAt0_B m c ⟨n + 1, hn⟩ (by show ¬(n + 1) % 8 = 0; omega), out_B_2, out_B_3]
    unfold sout0_B_0
    rw [hs]

/-! ## The two arrays after the run -/

/-- Batch element `b` of the whole input. -/
def batch (x : Vec F S64x576x256 .f32) (b : Fin 64) : Vec F S1x576x256 .f32 := fun z => x (ix3 b (z 1) (z 2))

/-- The products of batch element `b` with the normalised prototypes: one row per position, one column per prototype. -/
def products (x : Vec F S64x576x256 .f32) (p : Vec F S1024x256 .f32) (b : Fin 64) : Vec F S576x1024 .f32 :=
  table (batch x b) (k0_pay1 p)

/-- Batch element `b` stands in input block `b / 8`, at row `b % 8`. -/
theorem element_block (c : Dev nD) (b : Fin 64) (h : b.val / 8 < cfg0.N) :
    element (iblk m c 0 ⟨b.val / 8, h⟩) ⟨b.val % 8, Nat.mod_lt _ (by decide)⟩ = batch (m ((c : Thread nD τ).loc main_arg0)) b := by
  funext z
  refine input_block m c _ _ b ?_
  show b.val = 8 * (b.val / 8) + b.val % 8
  omega

/-- The first array at row `b`: the distances of batch element `b`. -/
theorem first_array (c : Dev nD) (i : S64x1024.Idx) :
    Value.G2 m c i = distRow (products (m ((c : Thread nD τ).loc main_arg0)) (m ((c : Thread nD τ).loc main_arg1)) (i 0)) (ix2 0 (i 1)) := by
  have h0 : (i 0).val < 64 := (i 0).isLt
  have h1 : (i 1).val < 1024 := (i 1).isLt
  have hp : Value.pt2Of i = (i 0).val / 8 := by
    show 1 * ((i 0).val / 8 - 0) + 1 * ((i 1).val / 1024 - 0) = _
    omega
  have h : (i 0).val / 8 < cfg0.N := lt_of_lt_of_eq (by omega) N_0.symm
  have e : Value.G2 m c i = (outsAt0 m c ((i 0).val / 8) h).1 (Value.loc2Of i) := by
    unfold Value.G2
    rw [dif_pos (by rw [hp]; exact h), Value.outsAt0_sweep, Value.fold0_congr m c _ _ _ _ hp]
  have hc : (Value.loc2Of i 1 : Fin 1024) = i 1 := Fin.ext (Nat.mod_eq_of_lt h1)
  rw [e, outsAt_eq]
  dsimp only [dists]
  exact congrArg₂ (fun a b => distRow (table a (k0_pay1 _)) (ix2 0 b)) (element_block m c (i 0) h) hc

/-- The second array at row `b`: the indices of batch element `b`. -/
theorem second_array (c : Dev nD) (i : S64x1024.Idx) :
    Value.G3 m c i = indexRow (products (m ((c : Thread nD τ).loc main_arg0)) (m ((c : Thread nD τ).loc main_arg1)) (i 0)) (ix2 0 (i 1)) := by
  have h0 : (i 0).val < 64 := (i 0).isLt
  have h1 : (i 1).val < 1024 := (i 1).isLt
  have hp : Value.pt3Of i = (i 0).val / 8 := by
    show 1 * ((i 0).val / 8 - 0) + 1 * ((i 1).val / 1024 - 0) = _
    omega
  have h : (i 0).val / 8 < cfg0.N := lt_of_lt_of_eq (by omega) N_0.symm
  have e : Value.G3 m c i = (outsAt0 m c ((i 0).val / 8) h).2.1 (Value.loc3Of i) := by
    unfold Value.G3
    rw [dif_pos (by rw [hp]; exact h), Value.outsAt0_sweep, Value.fold0_congr m c _ _ _ _ hp]
  have hc : (Value.loc3Of i 1 : Fin 1024) = i 1 := Fin.ext (Nat.mod_eq_of_lt h1)
  rw [e, outsAt_eq]
  dsimp only [indices]
  exact congrArg₂ (fun a b => indexRow (table a (k0_pay1 _)) (ix2 0 b)) (element_block m c (i 0) h) hc

end Cert.KernelIdeal.Hand

end
-- ==== Proof.First.lean ====
/- The first place at which a finite sequence of extended reals takes its greatest value, and the least
   word of a fold. -/
module

public import Idealize.ShloMosaic.PureOps.Reduce
public import Idealize.ShloMosaic.Lib.SortNet.Extract
public import Idealize.ShloMosaic.PureOps.Ideal.Laws

@[expose] public section

noncomputable section

namespace Cert.Hand

open Idealize.ShloMosaic

/-- Place `i` holds the greatest value, and no place before it does. -/
structure FirstTop {n : ℕ} (f : Fin n → EReal) (i : Fin n) : Prop where
  le : ∀ j, f j ≤ f i
  lt : ∀ j, j < i → f j < f i

/-- A fold of the signed minimum over words none of which lies below `w` gives `w` as soon as it meets `w`. -/
theorem fold_minsi_eq {ι : Type} [DecidableEq ι] (g : ι → BitVec 32) (s : Finset ι) (init w : BitVec 32)
    (hinit : w.toInt ≤ init.toInt) (hg : ∀ i ∈ s, w.toInt ≤ (g i).toInt) (hw : ∃ i ∈ s, g i = w) :
    s.fold IntOp.minsi init g = w := by
  have h : w.toInt ≤ (s.fold IntOp.minsi init g).toInt ∧ ((∃ i ∈ s, g i = w) → s.fold IntOp.minsi init g = w) := by
    clear hw
    induction s using Finset.induction_on with
    | empty => exact ⟨by rw [Finset.fold_empty]; exact hinit, fun ⟨i, hi, _⟩ => absurd hi (Finset.notMem_empty i)⟩
    | insert a s has ih =>
      obtain ⟨h1, h2⟩ := ih fun i hi => hg i (Finset.mem_insert_of_mem hi)
      have ha := hg a (Finset.mem_insert_self a s)
      rw [Finset.fold_insert has]
      have hm := Idealize.ShloMosaic.SortNet.toInt_minsi (g a) (s.fold IntOp.minsi init g)
      refine ⟨by rw [hm]; exact le_min ha h1, fun ⟨i, hi, e⟩ => BitVec.eq_of_toInt_eq ?_⟩
      rw [hm]
      rcases Finset.mem_insert.mp hi with rfl | hi
      · rw [e]; exact min_eq_left h1
      · rw [h2 ⟨i, hi, e⟩]; exact min_eq_right ha
  exact h.2 hw

/-- A fold of the maximum over values none of which exceeds `w` gives `w` as soon as it meets `w`. -/
theorem fold_max_eq {ι : Type} [DecidableEq ι] (g : ι → EReal) (s : Finset ι) (init w : EReal)
    (hinit : init ≤ w) (hg : ∀ i ∈ s, g i ≤ w) (hw : ∃ i ∈ s, g i = w) : s.fold max init g = w := by
  have h : s.fold max init g ≤ w ∧ ((∃ i ∈ s, g i = w) → s.fold max init g = w) := by
    clear hw
    induction s using Finset.induction_on with
    | empty => exact ⟨by rw [Finset.fold_empty]; exact hinit, fun ⟨i, hi, _⟩ => absurd hi (Finset.notMem_empty i)⟩
    | insert a s has ih =>
      obtain ⟨h1, h2⟩ := ih fun i hi => hg i (Finset.mem_insert_of_mem hi)
      have ha := hg a (Finset.mem_insert_self a s)
      rw [Finset.fold_insert has]
      refine ⟨max_le ha h1, fun ⟨i, hi, e⟩ => ?_⟩
      rcases Finset.mem_insert.mp hi with rfl | hi
      · rw [e]; exact max_eq_left h1
      · rw [h2 ⟨i, hi, e⟩]; exact max_eq_right ha
  exact h.2 hw

end Cert.Hand

end
-- ==== Proof.Column.lean ====
/- What the kernel's pass leaves in one column, over the extended reals: the column's greatest entry, and the
   first row that holds it. -/
module

public import proofs.«01_k».proof.Proof.Scan
public import proofs.«01_k».proof.Proof.First
public import Idealize.ShloMosaic.Lib.Pipeline.Value
public import Idealize.ShloMosaic.Lib.ValueIdx

@[expose] public section

noncomputable section

namespace Cert.KernelIdeal.Hand

open Idealize.ShloMosaic Idealize.ShloMosaic.TcCoe Idealize.ShloMosaic.ValueIdx
open Cert.KernelIdeal Cert.KernelIdeal.Gen Cert.Hand

variable (s : FVec Ideal S576x1024 .f32) (c : Fin 1024)

/-- Row `8·k + r` of the table. -/
abbrev row (k : ℕ) (h : k < 72) (r : Fin 8) : Fin 576 := ⟨8 * k + r.val, by omega⟩

/-- Column `c` of the table. -/
abbrev column (n : Fin 576) : EReal := s (ix2 n c)

/-- Row `r` of group `k` of the table, in one column. -/
theorem group_apply (k : ℕ) (h : k < 72) (r : Fin 8) : group s k h (ix2 r c) = column s c (row k h r) :=
  extractStridedSlice_apply _ s _ _ _ fun a => by
    match a with
    | ⟨0, _⟩ => rfl
    | ⟨1, _⟩ => exact (Nat.zero_add _).symm

/-- A choice at a place, by the bit there. -/
theorem select_bit {α : Type} {t : Shape} {b : IVec t 1} {x y : t.Idx → α} {i : t.Idx} {p : Bool}
    (h : b i = BitVec.ofBool p) : select b x y i = if p then x i else y i := by
  show Scalar.select (b i) (x i) (y i) = _
  rw [h]
  cases p <;> rfl

/-- The offset rows of a group, as words. -/
theorem offset_word (k : ℕ) (r : Fin 8) :
    addi (iota .tc S8x1024 32 [0] iota_S8x1024_d0_w32) (broadcast S8x1024 (BitVec.ofNat 32 (8 * k))) (ix2 r c)
      = BitVec.ofNat 32 (8 * k + r.val) := by
  show iota .tc S8x1024 32 [0] iota_S8x1024_d0_w32 (ix2 r c) + BitVec.ofNat 32 (8 * k) = _
  rw [iota_single_apply, ← BitVec.ofNat_add]
  exact congrArg (BitVec.ofNat 32) (Nat.add_comm _ _)

/-- After groups `0, …, k`, lane `r` holds the greatest of its entries met so far, and the first row that holds it. -/
theorem run_spec (r : Fin 8) : ∀ (k : ℕ) (h : k < 72), ∃ (i : ℕ) (hi : i ≤ k),
    runM s k h (ix2 r c) = column s c (row i (lt_of_le_of_lt hi h) r)
    ∧ runI s k h (ix2 r c) = BitVec.ofNat 32 (8 * i + r.val)
    ∧ (∀ j (hj : j ≤ k), column s c (row j (lt_of_le_of_lt hj h) r) ≤ runM s k h (ix2 r c))
    ∧ ∀ j (hj : j < i), column s c (row j (by omega) r) < runM s k h (ix2 r c)
  | 0, h => by
    refine ⟨0, le_rfl, group_apply s c 0 h r, ?_, fun j hj => ?_, fun j hj => absurd hj (Nat.not_lt_zero j)⟩
    · show iota .tc S8x1024 32 [0] iota_S8x1024_d0_w32 (ix2 r c) = _
      rw [iota_single_apply]
      exact congrArg (BitVec.ofNat 32) (by show r.val = 8 * 0 + r.val; omega)
    · obtain rfl : j = 0 := by omega
      exact (group_apply s c 0 h r).ge
  | k + 1, h => by
    obtain ⟨i, hi, hM, hI, hle, hlt⟩ := run_spec r k (Nat.lt_of_succ_lt h)
    have hg := group_apply s c (k + 1) h r
    have hc : cmpf .ogt (group s (k + 1) h) (runM s k (Nat.lt_of_succ_lt h)) (ix2 r c)
        = BitVec.ofBool (decide (runM s k (Nat.lt_of_succ_lt h) (ix2 r c) < column s c (row (k + 1) h r))) := by
      rw [← hg]; rfl
    by_cases hb : runM s k (Nat.lt_of_succ_lt h) (ix2 r c) < column s c (row (k + 1) h r)
    · rw [decide_eq_true hb] at hc
      have eM : runM s (k + 1) h (ix2 r c) = column s c (row (k + 1) h r) := (select_bit hc).trans hg
      have eI : runI s (k + 1) h (ix2 r c) = BitVec.ofNat 32 (8 * (k + 1) + r.val) :=
        (select_bit hc).trans (offset_word c (k + 1) r)
      refine ⟨k + 1, le_rfl, eM, eI, fun j hj => ?_, fun j hj => ?_⟩
      · rw [eM]
        rcases Nat.lt_or_ge k j with hk | hk
        · obtain rfl : j = k + 1 := by omega
          exact le_rfl
        · exact (hle j hk).trans hb.le
      · rw [eM]; exact (hle j (by omega)).trans_lt hb
    · rw [decide_eq_false hb] at hc
      have eM : runM s (k + 1) h (ix2 r c) = runM s k (Nat.lt_of_succ_lt h) (ix2 r c) := select_bit hc
      have eI : runI s (k + 1) h (ix2 r c) = runI s k (Nat.lt_of_succ_lt h) (ix2 r c) := select_bit hc
      refine ⟨i, Nat.le_succ_of_le hi, eM.trans hM, eI.trans hI, fun j hj => ?_, fun j hj => ?_⟩
      · rw [eM]
        rcases Nat.lt_or_ge k j with hk | hk
        · obtain rfl : j = k + 1 := by omega
          exact not_lt.mp hb
        · exact hle j hk
      · rw [eM]; exact hlt j hj

variable {s c}

/-- A lane's last running maximum does not exceed the column's greatest entry. -/
theorem runM_le {n : Fin 576} (hn : FirstTop (column s c) n) (r : Fin 8) :
    runM s 71 (by decide) (ix2 r c) ≤ column s c n := by
  obtain ⟨i, hi, hM, -⟩ := run_spec s c r 71 (by decide)
  rw [hM]; exact hn.le _

/-- The lane of the first row that holds the greatest entry ends with that entry and that row. -/
theorem run_at_first {n : Fin 576} (hn : FirstTop (column s c) n) :
    runM s 71 (by decide) (ix2 (⟨n.val % 8, Nat.mod_lt _ (by decide)⟩ : Fin 8) c) = column s c n
    ∧ runI s 71 (by decide) (ix2 (⟨n.val % 8, Nat.mod_lt _ (by decide)⟩ : Fin 8) c) = BitVec.ofNat 32 n.val := by
  have hn' := n.isLt
  obtain ⟨i, hi, hM, hI, hle, hlt⟩ := run_spec s c (⟨n.val % 8, Nat.mod_lt _ (by decide)⟩ : Fin 8) 71 (by decide)
  have hrow : ∀ h, row (n.val / 8) h (⟨n.val % 8, Nat.mod_lt _ (by decide)⟩ : Fin 8) = n := fun h =>
    Fin.ext (by show 8 * (n.val / 8) + n.val % 8 = n.val; omega)
  have hq : n.val / 8 ≤ 71 := by omega
  have e : runM s 71 (by decide) (ix2 (⟨n.val % 8, Nat.mod_lt _ (by decide)⟩ : Fin 8) c) = column s c n :=
    le_antisymm (runM_le hn _) (by have := hle _ hq; rwa [hrow] at this)
  refine ⟨e, hI.trans (congrArg (BitVec.ofNat 32) ?_)⟩
  rcases Nat.lt_trichotomy i (n.val / 8) with h | h | h
  · exfalso
    have h2 := hn.lt (row i (by omega) (⟨n.val % 8, Nat.mod_lt _ (by decide)⟩ : Fin 8))
      (Fin.lt_def.mpr (by show 8 * i + n.val % 8 < n.val; omega))
    rw [← hM, e] at h2
    exact lt_irrefl _ h2
  · show 8 * i + n.val % 8 = n.val
    omega
  · exfalso
    have h2 := hlt _ h
    rw [hrow, e] at h2
    exact lt_irrefl _ h2

/-- The word the maximum starts from is minus infinity. -/
theorem bits_bot : (FloatOps.ofBits .f32 0xFF800000#32 : Ideal .f32) = (⊥ : EReal) := by
  show Ideal.ofBits .f32 0xFF800000#32 = ⊥
  simp [Ideal.ofBits, Ideal.ieee]

/-- The entries that a reduction over the eight lanes meets. -/
theorem lift_lane (j : S1024.Idx) (r : Fin 8) : reduces_S8x1024_S1024.lift j r = ix2 r (j 0) := by
  funext a
  match a with
  | ⟨0, _⟩ => rfl
  | ⟨1, _⟩ => rfl

/-- A vector read as a one-row array. -/
theorem cast_row {α : Type} (v : S1024.Idx → α) :
    shapeCast S1x1024 v shapeCasts_S1024_S1x1024 (ix2 0 c) = v (ix1 c) :=
  shapeCast_apply v _ _ _ (by
    rw [Shape.rowMajor_val_one, Shape.rowMajor_val_two]
    show c.val = 0 * 1024 + c.val
    omega)

/-- The greatest entry of the column. -/
theorem top_apply {n : Fin 576} (hn : FirstTop (column s c) n) : top s (ix2 0 c) = column s c n := by
  unfold top
  rw [cast_row]
  refine (Ideal.multiReduction_maximumf_single _ _ _ _ _ _).trans ?_
  refine fold_max_eq _ _ _ _ (by rw [bits_bot]; exact bot_le) (fun r _ => ?_)
    ⟨(⟨n.val % 8, Nat.mod_lt _ (by decide)⟩ : Fin 8), Finset.mem_univ _, ?_⟩
  · exact (congrArg (runM s 71 (by decide)) (lift_lane (ix1 c) r)).trans_le (runM_le hn r)
  · exact (congrArg (runM s 71 (by decide)) (lift_lane (ix1 c) _)).trans (run_at_first hn).1

/-- The first result in column `c`: one less the greatest entry. -/
theorem distRow_apply {n : Fin 576} (hn : FirstTop (column s c) n) :
    distRow s (ix2 0 c) = (FloatOps.ofBits .f32 0x3F800000#32 : Ideal .f32) - column s c n := by
  rw [← top_apply hn]; rfl

/-- The second result in column `c`: the first row that holds the greatest entry. -/
theorem indexRow_apply {n : Fin 576} (hn : FirstTop (column s c) n) :
    indexRow s (ix2 0 c) = BitVec.ofNat 32 n.val := by
  have hn' := n.isLt
  have hi32 : ∀ a : ℕ, a ≤ 576 → (BitVec.ofNat 32 a).toInt = a := fun a ha => by
    rw [BitVec.toInt_eq_toNat_of_lt (by simp; omega)]
    simp
    omega
  have hb : ∀ r : Fin 8, broadcastTo S8x1024 (top s) broadcasts_S1x1024_S8x1024 (ix2 r c) = column s c n := fun r => by
    rw [← top_apply hn]
    exact broadcastTo_apply _ _ _ _ fun a => by
      match a with
      | ⟨0, _⟩ => rfl
      | ⟨1, _⟩ => rfl
  have hsel : ∀ r : Fin 8, select (cmpf .oeq (runM s 71 (by decide)) (broadcastTo S8x1024 (top s) broadcasts_S1x1024_S8x1024))
      (runI s 71 (by decide)) (broadcast S8x1024 576#32) (ix2 r c)
      = if runM s 71 (by decide) (ix2 r c) = column s c n then runI s 71 (by decide) (ix2 r c) else 576#32 := fun r => by
    have hc : cmpf .oeq (runM s 71 (by decide)) (broadcastTo S8x1024 (top s) broadcasts_S1x1024_S8x1024) (ix2 r c)
        = BitVec.ofBool (decide (runM s 71 (by decide) (ix2 r c) = column s c n)) := by
      rw [← hb r]; rfl
    split
    · next h => rw [decide_eq_true h] at hc; exact select_bit hc
    · next h => rw [decide_eq_false h] at hc; exact select_bit hc
  unfold indexRow
  rw [cast_row]
  refine ((multiReductionI_eq_fold _ _ _ _ _ _).trans (Shape.Reduces.fold_filter_drop_single _ _ _ _ _)).trans ?_
  refine fold_minsi_eq _ _ _ _ ?_ (fun r _ => ?_) ⟨(⟨n.val % 8, Nat.mod_lt _ (by decide)⟩ : Fin 8), Finset.mem_univ _, ?_⟩
  · rw [hi32 _ (by omega)]
    have : (2147483647#32 : BitVec 32).toInt = 2147483647 := by decide
    omega
  · refine le_of_le_of_eq ?_ (congrArg BitVec.toInt ((congrArg _ (lift_lane (ix1 c) r)).trans (hsel r))).symm
    rw [hi32 _ (by omega)]
    split
    · next h =>
      obtain ⟨i, hi, hM, hI, -⟩ := run_spec s c r 71 (by decide)
      rw [hI, hi32 _ (by omega)]
      by_contra hlt
      have h2 := hn.lt (row i (by omega) r) (Fin.lt_def.mpr (by show 8 * i + r.val < n.val; omega))
      rw [← hM, h] at h2
      exact lt_irrefl _ h2
    · have : (576#32 : BitVec 32).toInt = 576 := by decide
      omega
  · refine ((congrArg _ (lift_lane (ix1 c) _)).trans (hsel _)).trans ?_
    rw [if_pos (run_at_first hn).1, (run_at_first hn).2]

end Cert.KernelIdeal.Hand

end
-- ==== Proof.Meaning.lean ====
/- What the two programs compute, over the extended reals: the product of a position with a normalised
   prototype, and the step from products to negated distances. -/
module

public import proofs.«01_k».proof.Proof.First
public import Idealize.ShloMosaic.Lib.ValueIdx
public import Idealize.ShloMosaic.Lib.IdealHost

@[expose] public section

noncomputable section

namespace Cert.Hand

open Idealize.ShloMosaic Idealize.ShloMosaic.ValueIdx

/-- The length of prototype `c`, kept off zero by the small constant. -/
def length (p : (⟨2, ![1024, 256]⟩ : Shape).Idx → EReal) (c : Fin 1024) : EReal :=
  max (Ideal.sqrt (∑ k : Fin 256, p (ix2 c k) * p (ix2 c k))) (Ideal.ofBits .f32 0x2B8CBCCC#32)

/-- Entry `k` of prototype `c` over its length. -/
def normed (p : (⟨2, ![1024, 256]⟩ : Shape).Idx → EReal) (c : Fin 1024) (k : Fin 256) : EReal :=
  Ideal.div (p (ix2 c k)) (length p c)

/-- The product of position `n` of batch element `b` with normalised prototype `c`. -/
def product (x : (⟨3, ![64, 576, 256]⟩ : Shape).Idx → EReal) (p : (⟨2, ![1024, 256]⟩ : Shape).Idx → EReal)
    (b : Fin 64) (c : Fin 1024) (n : Fin 576) : EReal :=
  ∑ k : Fin 256, x (ix3 b n k) * normed p c k

/-- The small constant is positive. -/
theorem small_pos : (0 : EReal) < Ideal.ofBits .f32 0x2B8CBCCC#32 := by
  simp [Ideal.ofBits, Ideal.ieee]
  norm_num
  refine EReal.mul_pos ?_ ?_ <;> exact EReal.coe_pos.mpr (by norm_num)

/-- So no length is zero. -/
theorem length_ne_zero (p : (⟨2, ![1024, 256]⟩ : Shape).Idx → EReal) (c : Fin 1024) : length p c ≠ 0 :=
  (lt_of_lt_of_le small_pos (le_max_right _ _)).ne'

/-- Multiplying by the reciprocal of the length is dividing by the length. -/
theorem mul_recip (p : (⟨2, ![1024, 256]⟩ : Shape).Idx → EReal) (c : Fin 1024) (a : EReal) :
    a * Ideal.div (Ideal.ofBits .f32 0x3F800000#32) (length p c) = Ideal.div a (length p c) := by
  unfold Ideal.div
  rw [if_neg (length_ne_zero p c), if_neg (length_ne_zero p c), Ideal.ofBits_one_f32, one_mul]

/-- Negated distance is strictly increasing in the product. -/
theorem negDist_lt {a b : EReal} : -(1 - a) < -(1 - b) ↔ a < b := by
  rw [EReal.neg_lt_neg_iff]
  constructor
  · intro h
    by_contra hab
    exact absurd h (not_lt.mpr (EReal.sub_le_sub le_rfl (not_lt.mp hab)))
  · intro h
    rw [sub_eq_add_neg, sub_eq_add_neg]
    exact EReal.add_lt_add_left_coe (EReal.neg_lt_neg_iff.mpr h) 1

/-- So the first place of the greatest negated distance is that of the greatest product. -/
theorem FirstTop.of_negDist {n : ℕ} {f : Fin n → EReal} {i : Fin n} (h : FirstTop (fun j => -(1 - f j)) i) : FirstTop f i :=
  ⟨fun j => not_lt.mp fun hlt => absurd (negDist_lt.mpr hlt) (not_lt.mpr (h.le j)), fun j hj => negDist_lt.mp (h.lt j hj)⟩

end Cert.Hand

end
-- ==== Proof.Products.lean ====
/- The kernel's scratch and its table of products, entry by entry, over the extended reals. -/
module

public import proofs.«01_k».proof.Proof.Arrays
public import proofs.«01_k».proof.Proof.Column
public import proofs.«01_k».proof.Proof.Meaning

@[expose] public section

noncomputable section

namespace Cert.KernelIdeal.Hand

open Idealize.ShloMosaic Idealize.ShloMosaic.TcCoe Idealize.ShloMosaic.ValueIdx
open Cert.KernelIdeal Cert.KernelIdeal.Gen Cert.Hand

/-- The transposed prototypes, entry by entry. -/
theorem transposed_apply (p : FVec Ideal S1024x256 .f32) (k : Fin 256) (c : Fin 1024) :
    transpose S256x1024 [1, 0] p transposes_S1024x256_p1_0_S256x1024 (ix2 k c) = p (ix2 c k) :=
  transpose_apply _ _ _ _ _ fun b => by
    match b with
    | ⟨0, _⟩ => rfl
    | ⟨1, _⟩ => rfl

/-- The entries that a sum over the features meets. -/
theorem lift_entry (j : S1024.Idx) (k : Fin 256) : reduces_S256x1024_S1024.lift j k = ix2 k (j 0) := by
  funext a
  match a with
  | ⟨0, _⟩ => rfl
  | ⟨1, _⟩ => rfl

/-- A row repeated down the features. -/
theorem spread_apply {α : Type} (v : S1x1024.Idx → α) (k : Fin 256) (c : Fin 1024) :
    broadcastTo S256x1024 v broadcasts_S1x1024_S256x1024 (ix2 k c) = v (ix2 0 c) :=
  broadcastTo_apply _ _ _ _ fun a => by
    match a with
    | ⟨0, _⟩ => rfl
    | ⟨1, _⟩ => rfl

/-- The sum of squares of prototype `c`, as the kernel sums it. -/
theorem squares_apply (p : FVec Ideal S1024x256 .f32) (c : Fin 1024) :
    multiReduction .add [0] S1024 (mulf (transpose S256x1024 [1, 0] p transposes_S1024x256_p1_0_S256x1024)
        (transpose S256x1024 [1, 0] p transposes_S1024x256_p1_0_S256x1024)) 0x00000000#32 reduces_S256x1024_S1024
        (.inl rfl) rfl (ix1 c)
      = ∑ k : Fin 256, p (ix2 c k) * p (ix2 c k) := by
  refine (Ideal.multiReduction_add_single _ _ _ _ _ _).trans (Finset.sum_congr rfl fun k _ => ?_)
  refine (congrArg _ (lift_entry (ix1 c) k)).trans ?_
  exact congrArg (fun a : EReal => a * a) (transposed_apply p k c)

/-- The scratch holds the normalised prototypes, transposed. -/
theorem scratch_apply (p : FVec Ideal S1024x256 .f32) (k : Fin 256) (c : Fin 1024) :
    k0_pay1 (F := Ideal) p (ix2 k c) = normed p c k := by
  unfold k0_pay1
  dsimp only
  rw [shapeCast_apply _ _ _ (ix2 k c) rfl, mulf_apply, transposed_apply, spread_apply, divf_apply, maximumf_apply]
  show p (ix2 c k) * Ideal.div (Ideal.ofBits .f32 0x3F800000#32)
    (max (Ideal.sqrt (shapeCast S1x1024 _ shapeCasts_S1024_S1x1024 (ix2 0 c))) (Ideal.ofBits .f32 0x2B8CBCCC#32)) = _
  rw [cast_row, squares_apply]
  exact mul_recip p c _

/-- The left factor of a product: a position and a feature. -/
theorem lhs_row (n : Fin 576) (c : Fin 1024) (q : dot_S576x256_S256x1024_S576x1024_1_0_0_1_n_n.contr.Idx) :
    (dot_S576x256_S256x1024_S576x1024_1_0_0_1_n_n.lhsIdx (ix2 n c) q 0).val = n.val := by
  unfold DotDims.lhsIdx
  rw [dif_neg (show ¬(0 : Fin S576x256.rank) ∈ dot_S576x256_S256x1024_S576x1024_1_0_0_1_n_n.lhsBatch by decide),
    dif_pos (show (0 : Fin S576x256.rank) ∈ dot_S576x256_S256x1024_S576x1024_1_0_0_1_n_n.lhsNonContracting by decide)]
  rfl

/-- The right factor of a product: a feature and a prototype. -/
theorem rhs_column (n : Fin 576) (c : Fin 1024) (q : dot_S576x256_S256x1024_S576x1024_1_0_0_1_n_n.contr.Idx) :
    (dot_S576x256_S256x1024_S576x1024_1_0_0_1_n_n.rhsIdx (ix2 n c) q 1).val = c.val := by
  unfold DotDims.rhsIdx
  rw [dif_neg (show ¬(1 : Fin S256x1024.rank) ∈ dot_S576x256_S256x1024_S576x1024_1_0_0_1_n_n.rhsBatch by decide),
    dif_pos (show (1 : Fin S256x1024.rank) ∈ dot_S576x256_S256x1024_S576x1024_1_0_0_1_n_n.rhsNonContracting by decide)]
  rfl

/-- An entry of the table is a sum of products over the 256 features. -/
theorem table_apply (v : Vec Ideal S1x576x256 .f32) (p : Vec Ideal S256x1024 .f32) (n : Fin 576) (c : Fin 1024) :
    table (F := Ideal) v p (ix2 n c) = ∑ k : Fin 256, (v (ix3 0 n k) * p (ix2 k c) : EReal) := by
  unfold table
  refine (Ideal.matmul_constant_zero_apply _ _ _ _ _).trans ?_
  rw [← Equiv.sum_comp (contrEquiv1 dot_S576x256_S256x1024_S576x1024_1_0_0_1_n_n 256 rfl rfl).symm]
  refine Finset.sum_congr rfl fun k _ => ?_
  have hk := contrEquiv1_symm_val dot_S576x256_S256x1024_S576x1024_1_0_0_1_n_n 256 rfl rfl k
  have el : dot_S576x256_S256x1024_S576x1024_1_0_0_1_n_n.lhsIdx (ix2 n c)
      ((contrEquiv1 dot_S576x256_S256x1024_S576x1024_1_0_0_1_n_n 256 rfl rfl).symm k) = ix2 n k := funext fun a => Fin.ext (by
    match a with
    | ⟨0, _⟩ => exact lhs_row _ _ _
    | ⟨1, _⟩ => exact (dot_S576x256_S256x1024_S576x1024_1_0_0_1_n_n.lhsIdx_val_of_single rfl _ _).trans hk)
  have er : dot_S576x256_S256x1024_S576x1024_1_0_0_1_n_n.rhsIdx (ix2 n c)
      ((contrEquiv1 dot_S576x256_S256x1024_S576x1024_1_0_0_1_n_n 256 rfl rfl).symm k) = ix2 k c := funext fun a => Fin.ext (by
    match a with
    | ⟨0, _⟩ => exact (dot_S576x256_S256x1024_S576x1024_1_0_0_1_n_n.rhsIdx_val_of_single rfl _ _).trans hk
    | ⟨1, _⟩ => exact rhs_column _ _ _)
  rw [el, er]
  refine congrArg (· * _) (shapeCast_apply v _ _ (ix3 0 n k) ?_)
  rw [Shape.rowMajor_val_three, Shape.rowMajor_val_two]
  show (0 * 576 + n.val) * 256 + k.val = n.val * 256 + k.val
  omega

/-- The kernel's table holds the products. -/
theorem products_apply (x : Vec Ideal S64x576x256 .f32) (p : Vec Ideal S1024x256 .f32) (b : Fin 64) (n : Fin 576) (c : Fin 1024) :
    products (F := Ideal) x p b (ix2 n c) = product x p b c n := by
  unfold products
  rw [table_apply]
  exact Finset.sum_congr rfl fun k _ => congrArg (x (ix3 b n k) * ·) (scratch_apply p k c)

end Cert.KernelIdeal.Hand

end
-- ==== Proof.TopOne.lean ====
/- The reference's top-k with k = 1: the first place of a sorted fiber is the first place of its greatest value. -/
module

public import proofs.«01_k».proof.Proof.First
public import proofs.«01_k».proof.Proof.Gen.ReferenceIdeal.Read

@[expose] public section

noncomputable section

namespace Cert.Hand

open Idealize.ShloMosaic Idealize.ShloMosaic.ValueIdx

/-- A stable sort, greatest first, of places in increasing order begins with the first place of the greatest value. -/
theorem stableSort_head {n : ℕ} (f : Fin n → EReal) (before : Fin n → Fin n → Bool)
    (hb : ∀ i j, before i j = decide (f j < f i)) : ∀ l : List (Fin n), l.Pairwise (· < ·) → l ≠ [] →
    ∃ i rest, stableSort before l = i :: rest ∧ (∀ j ∈ l, f j ≤ f i) ∧ ∀ j ∈ l, j < i → f j < f i
  | [], _, h => absurd rfl h
  | [a], _, _ => ⟨a, [], rfl, fun j hj => by rw [List.mem_singleton.mp hj],
      fun j hj hlt => by rw [List.mem_singleton.mp hj] at hlt; exact absurd hlt (lt_irrefl a)⟩
  | a :: b :: l, hp, _ => by
    obtain ⟨ha, hp'⟩ := List.pairwise_cons.mp hp
    obtain ⟨i, rest, hs, hle, hlt⟩ := stableSort_head f before hb (b :: l) hp' (List.cons_ne_nil b l)
    have e : stableSort before (a :: b :: l) = if before i a then i :: insertBefore before a rest else a :: i :: rest := by
      show insertBefore before a (stableSort before (b :: l)) = _
      rw [hs]
      rfl
    rw [e, hb]
    by_cases h : f a < f i
    · refine ⟨i, insertBefore before a rest, by simp [h], fun j hj => ?_, fun j hj hji => ?_⟩
      · rcases List.mem_cons.mp hj with rfl | hj
        · exact h.le
        · exact hle j hj
      · rcases List.mem_cons.mp hj with rfl | hj
        · exact h
        · exact hlt j hj hji
    · refine ⟨a, i :: rest, by simp [h], fun j hj => ?_, fun j hj hja => ?_⟩
      · rcases List.mem_cons.mp hj with rfl | hj
        · exact le_rfl
        · exact (hle j hj).trans (not_lt.mp h)
      · rcases List.mem_cons.mp hj with rfl | hj
        · exact absurd hja (lt_irrefl _)
        · exact absurd hja (lt_asymm (ha j hj))

/-- The first of the sorted positions is the first place of the greatest value. -/
theorem sortedFrom_first {n : ℕ} (f : Fin n → EReal) (before : Fin n → Fin n → Bool)
    (hb : ∀ i j, before i j = decide (f j < f i)) (k : Fin n) (hk : k.val = 0) : FirstTop f (sortedFrom before k) := by
  have hne : List.finRange n ≠ [] := List.ne_nil_of_mem (List.mem_finRange k)
  obtain ⟨i, rest, hs, hle, hlt⟩ := stableSort_head f before hb _ (List.pairwise_lt_finRange n) hne
  have e : sortedFrom before k = i := by
    unfold sortedFrom sortPositions
    have head : ∀ (l : List (Fin n)) (q : Fin l.length), q.val = 0 → l = i :: rest → l.get q = i := by
      rintro l ⟨q, hq⟩ rfl rfl
      rfl
    exact head _ _ hk hs
  rw [e]
  exact ⟨fun j => hle j (List.mem_finRange j), fun j => hlt j (List.mem_finRange j)⟩

/-- The place along axis `d` from which the top-k result at `i` is read. -/
def topPlace {s : Shape} {α : Type} (d : Fin s.rank) (gt : α → α → BitVec 1) (x : s.Idx → α) (i : s.Idx) : Fin (s.size d) :=
  sortedFrom (fun k k' => gt (x (i.along d k)) (x (i.along d k')) == 1#1) (i d)

/-- The first result of a top-k, read at one place. -/
theorem topK_fst {s t : Shape} {α : Type} (d : Fin s.rank) (gt : α → α → BitVec 1) (x : s.Idx → α)
    (h : s.Slices (fun _ => 0) t) (j : t.Idx) (i : s.Idx) (hi : ∀ a, (i a).val = (j (a.cast h.1.symm)).val) :
    (Host.topK t d.val gt x h).1 j = x (i.along d (topPlace d gt x i)) := by
  unfold Host.topK
  dsimp only
  rw [extractStridedSlice_apply _ _ h j i fun a => by rw [hi a, Nat.zero_add]]
  unfold Host.sort2
  rw [dif_pos d.isLt]
  rfl

/-- The second result of a top-k, read at one place. -/
theorem topK_snd {s t : Shape} {α : Type} (d : Fin s.rank) (gt : α → α → BitVec 1) (x : s.Idx → α)
    (h : s.Slices (fun _ => 0) t) (j : t.Idx) (i : s.Idx) (hi : ∀ a, (i a).val = (j (a.cast h.1.symm)).val) :
    (Host.topK t d.val gt x h).2 j = BitVec.ofNat 32 (topPlace d gt x i).val := by
  unfold Host.topK
  dsimp only
  rw [extractStridedSlice_apply _ _ h j i fun a => by rw [hi a, Nat.zero_add]]
  unfold Host.sort2
  rw [dif_pos d.isLt]
  dsimp only
  rw [dif_pos d.isLt]
  show BitVec.ofNat 32 (i.along d (topPlace d gt x i) d).val = _
  unfold Shape.Idx.along
  rw [Function.update_self]

open Cert.ReferenceIdeal in
/-- Top-1 along the last axis: the greatest value of each fiber, and the first place that holds it. -/
theorem topK_one (x : FVec Ideal S64x1024x576 .f32) (h : S64x1024x576.Slices (fun _ => 0) S64x1024x1) (b : Fin 64) (c : Fin 1024) :
    ∃ n : Fin 576, FirstTop (fun k : Fin 576 => (x (ix3 b c k) : EReal)) n
      ∧ (Host.topK S64x1024x1 2 (FloatOps.cmpfTotal .gt) x h).1 (ix3 b c 0) = x (ix3 b c n)
      ∧ (Host.topK S64x1024x1 2 (FloatOps.cmpfTotal .gt) x h).2 (ix3 b c 0) = BitVec.ofNat 32 n.val := by
  have hj : ∀ k : Fin 576, Shape.Idx.along (s := S64x1024x576) (ix3 b c (0 : Fin 576)) 2 k = ix3 b c k := fun k => by
    funext a
    match a with
    | ⟨0, _⟩ => rfl
    | ⟨1, _⟩ => rfl
    | ⟨2, _⟩ => rfl
  have hi : ∀ a : Fin S64x1024x576.rank,
      ((ix3 b c (0 : Fin 576) : S64x1024x576.Idx) a).val = ((ix3 b c (0 : Fin 1) : S64x1024x1.Idx) (a.cast h.1.symm)).val := fun a => by
    match a with
    | ⟨0, _⟩ => rfl
    | ⟨1, _⟩ => rfl
    | ⟨2, _⟩ => rfl
  refine ⟨topPlace (s := S64x1024x576) 2 (FloatOps.cmpfTotal (F := Ideal) (φ := .f32) .gt) x (ix3 b c (0 : Fin 576)),
    sortedFrom_first _ _ (fun i j => ?_) _ rfl, ?_, ?_⟩
  · rw [hj, hj, Ideal.cmpfTotal_def]
    show (BitVec.ofBool (decide (x (ix3 b c j) < x (ix3 b c i))) == 1#1) = _
    cases decide (x (ix3 b c j) < x (ix3 b c i)) <;> rfl
  · exact (topK_fst (s := S64x1024x576) 2 _ x h _ _ hi).trans (congrArg x (hj _))
  · exact topK_snd (s := S64x1024x576) 2 _ x h _ _ hi

end Cert.Hand

end
-- ==== Proof.Reference.lean ====
/- What the reference computes, read at an index over the extended reals. -/
module

public import proofs.«01_k».proof.Proof.TopOne
public import proofs.«01_k».proof.Proof.Meaning

@[expose] public section

noncomputable section

namespace Cert.ReferenceIdeal.Hand

open Idealize.ShloMosaic Idealize.ShloMosaic.TcCoe Idealize.ShloMosaic.ValueIdx
open Cert.ReferenceIdeal Cert.ReferenceIdeal.Gen Cert.ReferenceIdeal.Read Cert.Hand

variable (x : FVec Ideal S64x576x256 .f32) (p : FVec Ideal S1024x256 .f32)

/-- The length of prototype `c`, as the reference takes it. -/
theorem length_apply (c : Fin 1024) (z : Fin 1) : val_main_v2 (F := Ideal) p (ix2 c z) = length p c := by
  rw [val_main_v2_apply, val_main_v0_apply, val_main_call0_v2_apply, val_main_call0_v1_apply, val_main_v1_apply,
    val_main_cst_apply, val_main_call0_cst_apply]
  show max (Ideal.sqrt (Ideal.ofBits .f32 0x00000000#32 + _)) (Ideal.ofBits .f32 0x2B8CBCCC#32) = _
  rw [Ideal.ofBits_zero_f32, zero_add]
  unfold length
  refine congrArg (fun s => max (Ideal.sqrt s) _) (Finset.sum_congr rfl fun k _ => ?_)
  have e : idx_main_call0_v1 (idx_main_call0_v2 (ix2 c z)) k = ix2 c k := by
    funext a
    match a with
    | ⟨0, _⟩ => rfl
    | ⟨1, _⟩ => rfl
  rw [val_main_call0_v0_apply, e]
  rfl

/-- The normalised prototypes, transposed. -/
theorem normed_apply (k : Fin 256) (c : Fin 1024) : val_main_v5 (F := Ideal) p (ix2 k c) = normed p c k := by
  have e : idx_main_v5 (ix2 k c) = ix2 c k := by
    funext a
    match a with
    | ⟨0, _⟩ => rfl
    | ⟨1, _⟩ => rfl
  have e3 : idx_main_v3 (ix2 c k) = ix2 c 0 := by
    funext a
    match a with
    | ⟨0, _⟩ => rfl
    | ⟨1, _⟩ => rfl
  rw [val_main_v5_apply, e, val_main_v4_apply, val_main_v3_apply, e3, length_apply]
  rfl

/-- The negated distance of position `n` from prototype `c`. -/
theorem negDist_apply (b : Fin 64) (c : Fin 1024) (n : Fin 576) :
    val_main_v10 (F := Ideal) x p (ix3 b c n) = (-(1 - product x p b c n) : EReal) := by
  have e : idx_main_v10 (ix3 b c n) = ix3 b n c := by
    funext a
    match a with
    | ⟨0, _⟩ => rfl
    | ⟨1, _⟩ => rfl
    | ⟨2, _⟩ => rfl
  rw [val_main_v10_apply, e, val_main_v9_apply, val_main_v8_apply, val_main_v7_apply, val_main_cst_0_apply, val_main_v6_apply]
  show -(Ideal.ofBits .f32 0x3F800000#32 - _) = _
  rw [Ideal.ofBits_one_f32]
  unfold product
  refine congrArg (fun s : EReal => -(1 - s)) (Finset.sum_congr rfl fun k _ => ?_)
  have el : lidx_main_v6 (ix3 b n c) k = ix3 b n k := by
    funext a
    match a with
    | ⟨0, _⟩ => rfl
    | ⟨1, _⟩ => rfl
    | ⟨2, _⟩ => rfl
  have er : ridx_main_v6 (ix3 b n c) k = ix2 k c := by
    funext a
    match a with
    | ⟨0, _⟩ => rfl
    | ⟨1, _⟩ => rfl
  rw [el, er, normed_apply]

/-- The reference's two results at `(b, c)`: one less the greatest product, and the first position that holds it. -/
theorem results_apply (i : S64x1024.Idx) : ∃ n : Fin 576, FirstTop (product x p (i 0) (i 1)) n
    ∧ val_main_v12 (F := Ideal) x p i = (1 - product x p (i 0) (i 1) n : EReal)
    ∧ val_main_v13 (F := Ideal) x p i = BitVec.ofNat 32 n.val := by
  obtain ⟨n, hn, hv, hi⟩ := topK_one (val_main_v10 (F := Ideal) x p) sliceFits_S64x1024x576_S64x1024x1 (i 0) (i 1)
  have h0 : (i 0).val < 64 := (i 0).isLt
  have h1 : (i 1).val < 1024 := (i 1).isLt
  have e11 : idx_main_v11 i = ix3 (i 0) (i 1) 0 := by
    funext a
    apply Fin.ext
    match a with
    | ⟨0, _⟩ => show ((i 0).val * 1024 + (i 1).val) / 1024 = (i 0).val; omega
    | ⟨1, _⟩ => show ((i 0).val * 1024 + (i 1).val) / 1 % 1024 = (i 1).val; omega
    | ⟨2, _⟩ => rfl
  have e13 : idx_main_v13 i = ix3 (i 0) (i 1) 0 := e11
  refine ⟨n, FirstTop.of_negDist (f := product x p (i 0) (i 1)) ?_, ?_, ?_⟩
  · have e : (fun k : Fin 576 => (val_main_v10 (F := Ideal) x p (ix3 (i 0) (i 1) k) : EReal))
        = fun k => -(1 - product x p (i 0) (i 1) k) := funext fun k => negDist_apply x p (i 0) (i 1) k
    rwa [e] at hn
  · rw [val_main_v12_apply, val_main_v11_apply, e11]
    refine (congrArg (fun s : EReal => -s) (hv.trans (negDist_apply x p (i 0) (i 1) n))).trans ?_
    exact neg_neg _
  · rw [val_main_v13_apply, e13]
    exact hi

end Cert.ReferenceIdeal.Hand

end
-- ==== Proof.Equation.lean ====
/- The equation: the kernel's two arrays are the reference's two results. -/
module

public import proofs.«01_k».proof.Proof.Products
public import proofs.«01_k».proof.Proof.Reference

@[expose] public section

noncomputable section

namespace Cert.Hand

open Idealize.ShloMosaic Idealize.ShloMosaic.TcCoe Idealize.ShloMosaic.ValueIdx
open Cert.KernelIdeal Cert.KernelIdeal.Gen Cert.KernelIdeal.Hand

/-- One column of the kernel's table is the products of one prototype with all the patches of the batch element. -/
theorem column_products (x : FVec Ideal S64x576x256 .f32) (p : FVec Ideal S1024x256 .f32) (b : Fin 64) (c : Fin 1024) :
    column (products (F := Ideal) x p b) c = product x p b c :=
  funext fun n => products_apply x p b n c

/-- Entry by entry the kernel's distance and index are the reference's: both are read at the first patch with the
    greatest product. -/
theorem entries_agree (x : FVec Ideal S64x576x256 .f32) (p : FVec Ideal S1024x256 .f32) (i : S64x1024.Idx) :
    distRow (F := Ideal) (products (F := Ideal) x p (i 0)) (ix2 0 (i 1)) = Cert.ReferenceIdeal.Read.val_main_v12 (F := Ideal) x p i
      ∧ indexRow (F := Ideal) (products (F := Ideal) x p (i 0)) (ix2 0 (i 1)) = Cert.ReferenceIdeal.Read.val_main_v13 (F := Ideal) x p i := by
  obtain ⟨n, hn, hd, hi⟩ := Cert.ReferenceIdeal.Hand.results_apply x p i
  have hf := column_products x p (i 0) (i 1)
  have ht : FirstTop (column (products (F := Ideal) x p (i 0)) (i 1)) n :=
    Eq.mpr (congrArg (fun f => FirstTop f n) hf) hn
  refine ⟨(distRow_apply ht).trans (Eq.trans ?_ hd.symm), (indexRow_apply ht).trans hi.symm⟩
  exact congrArg₂ (fun a b : EReal => a - b) Ideal.ofBits_one_f32 (congrFun hf n)

variable (m : (ℓ : Loc nD τ sig) → Buf (Elt Ideal) ℓ) (c : Dev nD)

/-- The kernel's first array is the reference's first result, on every device. -/
theorem first_result :
    Value.G2 m c = Cert.ReferenceIdeal.Read.val_main_v12 (F := Ideal)
      (m ((c : Thread nD τ).loc main_arg0)) (m ((c : Thread nD τ).loc main_arg1)) :=
  funext fun i => (first_array m c i).trans (entries_agree _ _ i).1

/-- The kernel's second array is the reference's second result, on every device. -/
theorem second_result :
    Value.G3 m c = Cert.ReferenceIdeal.Read.val_main_v13 (F := Ideal)
      (m ((c : Thread nD τ).loc main_arg0)) (m ((c : Thread nD τ).loc main_arg1)) :=
  funext fun i => (second_array m c i).trans (entries_agree _ _ i).2

end Cert.Hand

end
-- ==== Proof.lean ====
/- The five claims about the nearest patch of each prototype: the kernel and its ideal reading run, the reference runs,
   the ideal reading is the kernel's own text, and over the extended reals kernel and reference give equal results.
   The frames of the kernel are generated; the equation of the results is in `Proof/Equation.lean`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference runs, keeps its arguments, and ends with every counter at zero: it declares no semaphore. -/
theorem frame_reference : Cert.quiescent_ReferenceIdeal (hReferenceIdeal := Cert.ReferenceIdeal.Gen.facts) :=
  fun m ρ _ => (θ_run Cert.ReferenceIdeal.defs _ _).mono
    (fun r h => ⟨fun c => ⟨(h c).2.2.1, (h c).2.2.2⟩, sem_eq_zero_of_no_sems (by decide) r.2⟩)
    (Cert.ReferenceIdeal.Value.run (F := Ideal) m ρ)

/-- The reference's run, its two results named by the last lines of its program. -/
theorem run_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal))
      (onTc (τ := Cert.ReferenceIdeal.τ) (Cert.ReferenceIdeal.main (F := Ideal))) ⟨m, fun _ => 0, ρ⟩ fun r =>
      ∀ c : Dev Cert.ReferenceIdeal.nD,
        r.2.mem ((c.tc : Thread Cert.ReferenceIdeal.nD Cert.ReferenceIdeal.τ).loc Cert.ReferenceIdeal.main_v12)
            = Cert.ReferenceIdeal.Read.val_main_v12 (F := Ideal)
              (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_v13)
            = Cert.ReferenceIdeal.Read.val_main_v13 (F := Ideal)
              (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1) :=
  (θ_run Cert.ReferenceIdeal.defs _ _).mono
    (fun _ h c => ⟨(h c).1.trans (Cert.ReferenceIdeal.Read.val_main_v12_eq _ _),
      (h c).2.1.trans (Cert.ReferenceIdeal.Read.val_main_v13_eq _ _), (h c).2.2.1, (h c).2.2.2⟩)
    (Cert.ReferenceIdeal.Value.run (F := Ideal) m ρ)

/-- Over the extended reals the kernel and the reference end with equal distances and equal indices. -/
theorem equal_results : Cert.algebraic_KernelIdeal_ReferenceIdeal (hKernelIdeal := Cert.KernelIdeal.Gen.facts)
    (hReferenceIdeal := Cert.ReferenceIdeal.Gen.facts) := fun m g m' g' _ hagree =>
  ⟨fun c => Cert.KernelIdeal.Value.G2 m c, fun c => Cert.KernelIdeal.Value.G3 m c,
    Cert.KernelIdeal.Value.run (F := Ideal) m g,
    (θ_run Cert.ReferenceIdeal.defs _ _).mono
      (fun _ h c => ⟨(h c).1.trans ((congrArg₂ (Cert.ReferenceIdeal.Read.val_main_v12 (F := Ideal)) (hagree c).1 (hagree c).2).trans
          (Cert.Hand.first_result m c).symm),
        (h c).2.1.trans ((congrArg₂ (Cert.ReferenceIdeal.Read.val_main_v13 (F := Ideal)) (hagree c).1 (hagree c).2).trans
          (Cert.Hand.second_result m c).symm), (h c).2.2.1, (h c).2.2.2⟩)
      (run_reference m' g')⟩

/-- All five claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference, trivial,
    equal_results⟩

end Cert.Proof

end
